-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0))) = (fun _ => 1#1)

def Pre_KernelIdeal_within [hPre_within : Cert.Pre_within.Facts] (m : (ℓ : Loc Cert.KernelIdeal.nD Cert.KernelIdeal.τ Cert.KernelIdeal.sig) → Buf (Elt Ideal) ℓ) : Prop :=
  ∀ c : Dev Cert.KernelIdeal.nD,
    (Cert.Pre_within.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_within [hKernelIdeal : Cert.KernelIdeal.Facts] [hPre_within : Cert.Pre_within.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "r_cs" .f32 0x3E99999A#32 ((3 / 10 : ℝ) : EReal)
  ∧ IdealRules.named_const.Statement Cert.KernelIdeal.κ "inv_period" .f32 0x3DB3A62D#32 ((5 / 57 : ℝ) : EReal)
  ∧ IdealRules.named_const.Statement Cert.KernelIdeal.κ "cs_turns" .f32 0x3CD79436#32 ((1 / 38 : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def holds_KernelIdeal_near_cosine_pre_within [hKernelIdeal : Cert.KernelIdeal.Facts] [hPre_within : Cert.Pre_within.Facts] [hPost_near_cosine : Cert.Post_near_cosine.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ (Cert.Post_near_cosine.fn (F := Ideal) (m ((c.tc : Thread Cert.KernelIdeal.nD Cert.KernelIdeal.τ).loc Cert.KernelIdeal.main_arg0)) (r.2.mem ((c.tc : Thread Cert.KernelIdeal.nD Cert.KernelIdeal.τ).loc Cert.KernelIdeal.main_v0))) = (fun _ => 1#1))

def Claim : Prop :=
  ∃ (hKernel : Cert.Kernel.Facts) (hKernelIdeal : Cert.KernelIdeal.Facts) (hReferenceIdeal : Cert.ReferenceIdeal.Facts) (hPre_in_range : Cert.Pre_in_range.Facts) (hPre_within : Cert.Pre_within.Facts) (hPost_near_cosine : Cert.Post_near_cosine.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_KernelIdeal_pre_within (hKernelIdeal := hKernelIdeal) (hPre_within := hPre_within)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
    ∧ holds_KernelIdeal_near_cosine_pre_within (hKernelIdeal := hKernelIdeal) (hPre_within := hPre_within) (hPost_near_cosine := hPost_near_cosine)
-- ==== Post_near_cosine.lean ====
abbrev S32768x2048 : Shape := ⟨2, ![32768, 2048]⟩
abbrev S32768x1 : Shape := ⟨2, ![32768, 1]⟩
abbrev S32768 : Shape := ⟨1, ![32768]⟩
abbrev S_ : Shape := ⟨0, ![]⟩

class Facts : Prop where
  slices_S32768x2048_S32768x1_0_0 : S32768x2048.Slices ![0, 0] S32768x1
  shapeCasts_S32768x1_S32768 : S32768x1.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  bcast_S_S32768x2048 : S_.BroadcastsInDim S32768x2048 (![] : Fin 0 → Fin S32768x2048.rank)
  bcast_S32768x1_S32768x2048_0_1 : S32768x1.BroadcastsInDim S32768x2048 (![0, 1] : Fin 2 → Fin S32768x2048.rank)

variable [Facts]

def fn_where {F : FTy → Type} [FloatOps F] (arg0 : IVec S32768x1 1) (arg1 : FVec F S32768x2048 .f32) (arg2 : FVec F S32768x2048 .f32) : FVec F S32768x2048 .f32 :=
  let v0 : IVec S32768x2048 1 := broadcastInDim S32768x2048 ![0, 1] bcast_S32768x1_S32768x2048_0_1 arg0
  let v1 : FVec F S32768x2048 .f32 := select v0 arg1 arg2
  v1

def fn_where_0 {F : FTy → Type} [FloatOps F] (arg0 : IVec S32768x1 1) (arg1 : FVec F S32768x2048 .f32) (arg2 : FVec F S32768x2048 .f32) : FVec F S32768x2048 .f32 :=
  let v0 : IVec S32768x2048 1 := broadcastInDim S32768x2048 ![0, 1] bcast_S32768x1_S32768x2048_0_1 arg0
  let v1 : FVec F S32768x2048 .f32 := select v0 arg1 arg2
  v1

def fn_part2 {F : FTy → Type} [FloatOps F] (main_arg1 : FVec F S32768x2048 .f32) (main_v31 : FVec F S32768x2048 .f32) (main_v32 : IVec S32768x1 1) (main_v33 : FVec F S32768x2048 .f32) : IVec S32768x2048 1 :=
  let main_v34 : FVec F S32768x2048 .f32 := fn_where_0 (F := F) main_v32 main_v33 main_v31
  let main_v35 : FVec F S32768x2048 .f32 := subf main_arg1 main_v34
  let main_v36 : FVec F S32768x2048 .f32 := Host.absf main_v35
  let main_v37 : FVec F S32768x2048 .f32 := Host.absf main_v34
  let main_cst_13 : FVec F S_ .f32 := constant S_ .f32 0x38D1B717#32
  let main_v38 : FVec F S32768x2048 .f32 := broadcastInDim S32768x2048 ![] bcast_S_S32768x2048 main_cst_13
  let main_v39 : FVec F S32768x2048 .f32 := mulf main_v38 main_v37
  let main_cst_14 : FVec F S_ .f32 := constant S_ .f32 0x3C75C28F#32
  let main_v40 : FVec F S32768x2048 .f32 := broadcastInDim S32768x2048 ![] bcast_S_S32768x2048 main_cst_14
  let main_v41 : FVec F S32768x2048 .f32 := addf main_v40 main_v39
  let main_v42 : IVec S32768x2048 1 := cmpf .ole main_v36 main_v41
  main_v42

def fn_part1 {F : FTy → Type} [FloatOps F] (main_arg1 : FVec F S32768x2048 .f32) (main_v6 : IVec S32768 1) (main_v12 : FVec F S32768x2048 .f32) (main_v13 : IVec S32768x1 1) (main_v15 : FVec F S32768x2048 .f32) (main_v16 : FVec F S_ .f32) : IVec S32768x2048 1 :=
  let main_v17 : FVec F S32768x2048 .f32 := broadcastInDim S32768x2048 ![] bcast_S_S32768x2048 main_v16
  let main_v18 : FVec F S32768x2048 .f32 := subf main_v12 main_v17
  let main_cst_6 : FVec F S_ .f32 := constant S_ .f32 0x40490FDB#32
  let main_v19 : FVec F S32768x2048 .f32 := broadcastInDim S32768x2048 ![] bcast_S_S32768x2048 main_cst_6
  let main_v20 : FVec F S32768x2048 .f32 := mulf main_v19 main_v18
  let main_cst_7 : FVec F S_ .f32 := constant S_ .f32 0x40400000#32
  let main_cst_8 : FVec F S_ .f32 := constant S_ .f32 0x41200000#32
  let main_v21 : FVec F S_ .f32 := Host.divf main_cst_7 main_cst_8
  let main_cst_9 : FVec F S_ .f32 := constant S_ .f32 0x40C00000#32
  let main_v22 : FVec F S_ .f32 := subf main_cst_9 main_v21
  let main_v23 : FVec F S32768x2048 .f32 := broadcastInDim S32768x2048 ![] bcast_S_S32768x2048 main_v22
  let main_v24 : FVec F S32768x2048 .f32 := Host.divf main_v20 main_v23
  let main_v25 : FVec F S32768x2048 .f32 := Host.cos main_v24
  let main_cst_10 : FVec F S_ .f32 := constant S_ .f32 0x3F000000#32
  let main_v26 : FVec F S32768x2048 .f32 := broadcastInDim S32768x2048 ![] bcast_S_S32768x2048 main_cst_10
  let main_v27 : FVec F S32768x2048 .f32 := mulf main_v26 main_v25
  let main_cst_11 : FVec F S_ .f32 := constant S_ .f32 0x3F000000#32
  let main_v28 : FVec F S32768x2048 .f32 := broadcastInDim S32768x2048 ![] bcast_S_S32768x2048 main_cst_11
  let main_v29 : FVec F S32768x2048 .f32 := addf main_v27 main_v28
  let main_v30 : FVec F S32768x2048 .f32 := mulf main_v15 main_v29
  let main_v31 : FVec F S32768x2048 .f32 := fn_where_0 (F := F) main_v13 main_v30 main_v12
  let main_v32 : IVec S32768x1 1 := broadcastInDim S32768x1 ![0] bcast_S32768_S32768x1_0 main_v6
  let main_cst_12 : FVec F S_ .f32 := constant S_ .f32 0x00000000#32
  let main_v33 : FVec F S32768x2048 .f32 := broadcastInDim S32768x2048 ![] bcast_S_S32768x2048 main_cst_12
  fn_part2 (F := F) main_arg1 main_v31 main_v32 main_v33

def fn {F : FTy → Type} [FloatOps F] (main_arg0 : FVec F S32768x2048 .f32) (main_arg1 : FVec F S32768x2048 .f32) : IVec S32768x2048 1 :=
  let main_v0 : FVec F S32768x1 .f32 := (extractStridedSlice S32768x1 ![0, 0] · slices_S32768x2048_S32768x1_0_0) main_arg0
  let main_v1 : FVec F S32768 .f32 := shapeCast S32768 main_v0 shapeCasts_S32768x1_S32768
  let main_cst : FVec F S_ .f32 := constant S_ .f32 0x40400000#32
  let main_cst_0 : FVec F S_ .f32 := constant S_ .f32 0x41200000#32
  let main_v2 : FVec F S_ .f32 := Host.divf main_cst main_cst_0
  let main_v3 : FVec F S32768 .f32 := broadcastInDim S32768 ![] bcast_S_S32768 main_v2
  let main_v4 : IVec S32768 1 := cmpf .olt main_v1 main_v3
  let main_cst_1 : FVec F S_ .f32 := constant S_ .f32 0x40C00000#32
  let main_v5 : FVec F S32768 .f32 := broadcastInDim S32768 ![] bcast_S_S32768 main_cst_1
  let main_v6 : IVec S32768 1 := cmpf .ogt main_v1 main_v5
  let main_v7 : IVec S32768 1 := andi main_v6 main_v4
  let main_v8 : IVec S32768 1 := noti main_v7
  let main_v9 : IVec S32768x1 1 := broadcastInDim S32768x1 ![0] bcast_S32768_S32768x1_0 main_v4
  let main_cst_2 : FVec F S_ .f32 := constant S_ .f32 0x3F800000#32
  let main_v10 : FVec F S32768x2048 .f32 := broadcastInDim S32768x2048 ![] bcast_S_S32768x2048 main_cst_2
  let main_v11 : FVec F S32768x2048 .f32 := Host.divf main_v10 main_arg0
  let main_v12 : FVec F S32768x2048 .f32 := fn_where (F := F) main_v9 main_v11 main_arg0
  let main_v13 : IVec S32768x1 1 := broadcastInDim S32768x1 ![0] bcast_S32768_S32768x1_0 main_v8
  let main_cst_3 : FVec F S_ .f32 := constant S_ .f32 0x3F800000#32
  let main_v14 : FVec F S32768x2048 .f32 := broadcastInDim S32768x2048 ![] bcast_S_S32768x2048 main_cst_3
  let main_v15 : FVec F S32768x2048 .f32 := Host.divf main_v14 main_v12
  let main_cst_4 : FVec F S_ .f32 := constant S_ .f32 0x40400000#32
  let main_cst_5 : FVec F S_ .f32 := constant S_ .f32 0x41200000#32
  let main_v16 : FVec F S_ .f32 := Host.divf main_cst_4 main_cst_5
  fn_part1 (F := F) main_arg1 main_v6 main_v12 main_v13 main_v15 main_v16
-- ==== Pre_in_range.lean ====
abbrev S32768x2048 : Shape := ⟨2, ![32768, 2048]⟩
abbrev S_ : Shape := ⟨0, ![]⟩
abbrev S32768x1 : Shape := ⟨2, ![32768, 1]⟩
abbrev S32768 : Shape := ⟨1, ![32768]⟩

class Facts : Prop where
  bcast_S_S32768x2048 : S_.BroadcastsInDim S32768x2048 (![] : Fin 0 → Fin S32768x2048.rank)
  slices_S32768x2048_S32768x1_0_0 : S32768x2048.Slices ![0, 0] S32768x1
  shapeCasts_S32768x1_S32768 : S32768x1.ShapeCasts S32768
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x2048_0_1 : S32768x1.BroadcastsInDim S32768x2048 (![0, 1] : Fin 2 → Fin S32768x2048.rank)

variable [Facts]

def fn {F : FTy → Type} [FloatOps F] (main_arg0 : FVec F S32768x2048 .f32) : IVec S32768x2048 1 :=
  let main_cst : FVec F S_ .f32 := constant S_ .f32 0xFF800000#32
  let main_v0 : FVec F S32768x2048 .f32 := broadcastInDim S32768x2048 ![] bcast_S_S32768x2048 main_cst
  let main_v1 : IVec S32768x2048 1 := cmpf .ogt main_arg0 main_v0
  let main_v2 : FVec F S32768x1 .f32 := (extractStridedSlice S32768x1 ![0, 0] · slices_S32768x2048_S32768x1_0_0) main_arg0
  let main_v3 : FVec F S32768 .f32 := shapeCast S32768 main_v2 shapeCasts_S32768x1_S32768
  let main_v4 : FVec F S32768x1 .f32 := broadcastInDim S32768x1 ![0] bcast_S32768_S32768x1_0 main_v3
  let main_cst_0 : FVec F S_ .f32 := constant S_ .f32 0x40C00000#32
  let main_v5 : FVec F S32768x1 .f32 := broadcastInDim S32768x1 ![] bcast_S_S32768x1 main_cst_0
  let main_v6 : IVec S32768x1 1 := cmpf .ole main_v4 main_v5
  let main_v7 : IVec S32768x2048 1 := broadcastInDim S32768x2048 ![0, 1] bcast_S32768x1_S32768x2048_0_1 main_v6
  let main_v8 : IVec S32768x2048 1 := andi main_v1 main_v7
  main_v8
-- ==== Pre_within.lean ====
abbrev S32768x2048 : Shape := ⟨2, ![32768, 2048]⟩
abbrev S32768x1 : Shape := ⟨2, ![32768, 1]⟩
abbrev S32768 : Shape := ⟨1, ![32768]⟩
abbrev S_ : Shape := ⟨0, ![]⟩

class Facts : Prop where
  slices_S32768x2048_S32768x1_0_0 : S32768x2048.Slices ![0, 0] S32768x1
  shapeCasts_S32768x1_S32768 : S32768x1.ShapeCasts S32768
  bcast_S_S32768 : S_.BroadcastsInDim S32768 (![] : Fin 0 → Fin S32768.rank)

variable [Facts]

def fn {F : FTy → Type} [FloatOps F] (main_arg0 : FVec F S32768x2048 .f32) : IVec S32768 1 :=
  let main_v0 : FVec F S32768x1 .f32 := (extractStridedSlice S32768x1 ![0, 0] · slices_S32768x2048_S32768x1_0_0) main_arg0
  let main_v1 : FVec F S32768 .f32 := shapeCast S32768 main_v0 shapeCasts_S32768x1_S32768
  let main_cst : FVec F S_ .f32 := constant S_ .f32 0x40C00000#32
  let main_v2 : FVec F S32768 .f32 := broadcastInDim S32768 ![] bcast_S_S32768 main_cst
  let main_v3 : IVec S32768 1 := cmpf .ole main_v1 main_v2
  main_v3
-- ==== Kernel.lean ====
abbrev S32768x2048 : Shape := ⟨2, ![32768, 2048]⟩
abbrev S1024x2048 : Shape := ⟨2, ![1024, 2048]⟩
abbrev S8x2048 : Shape := ⟨2, ![8, 2048]⟩
abbrev S8x1 : Shape := ⟨2, ![8, 1]⟩

abbrev nBuf : Space → Nat
  | .hbm => 2
  | .vmem => 4
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KernelIdeal.lean ====
variable {F : FTy → Type} [FloatOps F] [Named F]
def κ : String → Option EReal := fun
  | "cs_turns" => some ((1 / 38 : ℝ) : EReal)
  | "inv_period" => some ((5 / 57 : ℝ) : EReal)
  | "r_cs" => some ((3 / 10 : ℝ) : EReal)
  | _ => none
-- ==== ReferenceIdeal.lean ====
abbrev S32768x2048 : Shape := ⟨2, ![32768, 2048]⟩
abbrev S32768x1 : Shape := ⟨2, ![32768, 1]⟩
abbrev S32768 : Shape := ⟨1, ![32768]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x1, .f32⟩
  | .hbm, ⟨2, _⟩ => ⟨S32768, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S32768, .f32⟩
  | .hbm, ⟨7, _⟩ => ⟨S32768, .i1⟩
  | .hbm, ⟨8, _⟩ => ⟨S_, .f32⟩
  | .hbm, ⟨9, _⟩ => ⟨S32768, .f32⟩
  | .hbm, ⟨10, _⟩ => ⟨S32768, .i1⟩
  | .hbm, ⟨11, _⟩ => ⟨S32768, .i1⟩
  | .hbm, ⟨12, _⟩ => ⟨S32768, .i1⟩
  | .hbm, ⟨13, _⟩ => ⟨S32768x1, .i1⟩
  | .hbm, ⟨14, _⟩ => ⟨S_, .f32⟩
  | .hbm, ⟨15, _⟩ => ⟨S32768x2048, .f32⟩
  | .hbm, ⟨16, _⟩ => ⟨S32768x2048, .f32⟩
  | .hbm, ⟨17, _⟩ => ⟨S32768x2048, .i1⟩
  | .hbm, ⟨18, _⟩ => ⟨S32768x2048, .f32⟩
  | .hbm, ⟨19, _⟩ => ⟨S32768x1, .i1⟩
  | .hbm, ⟨20, _⟩ => ⟨S_, .f32⟩
  | .hbm, ⟨21, _⟩ => ⟨S32768x2048, .f32⟩
  | .hbm, ⟨22, _⟩ => ⟨S32768x2048, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S32768x2048, .f32⟩
  | .hbm, ⟨27, _⟩ => ⟨S32768x2048, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S32768x2048, .f32⟩
  | .hbm, ⟨34, _⟩ => ⟨S32768x2048, .f32⟩
  | .hbm, ⟨35, _⟩ => ⟨S_, .f32⟩
  | .hbm, ⟨36, _⟩ => ⟨S32768x2048, .f32⟩
  | .hbm, ⟨37, _⟩ => ⟨S32768x2048, .f32⟩
  | .hbm, ⟨38, _⟩ => ⟨S32768x2048, .f32⟩
  | .hbm, ⟨39, _⟩ => ⟨S32768x2048, .f32⟩
  | .hbm, ⟨40, _⟩ => ⟨S32768x2048, .f32⟩
  | .hbm, ⟨41, _⟩ => ⟨S_, .f32⟩
  | .hbm, ⟨42, _⟩ => ⟨S32768x2048, .f32⟩
  | .hbm, ⟨43, _⟩ => ⟨S32768x2048, .f32⟩
  | .hbm, ⟨44, _⟩ => ⟨S_, .f32⟩
  | .hbm, ⟨45, _⟩ => ⟨S32768x2048, .f32⟩
  | .hbm, ⟨46, _⟩ => ⟨S32768x2048, .f32⟩
  | .hbm, ⟨47, _⟩ => ⟨S32768x2048, .f32⟩
  | .hbm, ⟨48, _⟩ => ⟨S32768x2048, .f32⟩
  | .hbm, ⟨49, _⟩ => ⟨S_, .f32⟩
  | .hbm, ⟨50, _⟩ => ⟨S32768x2048, .f32⟩
  | .hbm, ⟨51, _⟩ => ⟨S32768x2048, .f32⟩
  | .hbm, ⟨52, _⟩ => ⟨S32768x2048, .f32⟩
  | .hbm, ⟨53, _⟩ => ⟨S32768x2048, .f32⟩
  | .hbm, ⟨54, _⟩ => ⟨S32768x2048, .i1⟩
  | .hbm, ⟨55, _⟩ => ⟨S32768x2048, .f32⟩
  | .hbm, ⟨56, _⟩ => ⟨S32768x1, .i1⟩
  | .hbm, ⟨57, _⟩ => ⟨S_, .f32⟩
  | .hbm, ⟨58, _⟩ => ⟨S32768x2048, .f32⟩
  | .hbm, ⟨59, _⟩ => ⟨S32768x2048, .i1⟩
  | .hbm, ⟨60, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_6 : Ref sig .tc := ⟨.hbm, 28, rfl⟩
abbrev main_cst_7 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_9 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_10 : Ref sig .tc := ⟨.hbm, 41, rfl⟩
abbrev main_v28 : Ref sig .tc := ⟨.hbm, 42, rfl⟩
abbrev main_v29 : Ref sig .tc := ⟨.hbm, 43, rfl⟩
abbrev main_cst_11 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_12 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_call2_v0 : Ref sig .tc := ⟨.hbm, 54, rfl⟩
abbrev main_v38 : Ref sig .tc := ⟨.hbm, 55, rfl⟩
abbrev main_v39 : Ref sig .tc := ⟨.hbm, 56, rfl⟩
abbrev main_cst_13 : Ref sig .tc := ⟨.hbm, 57, rfl⟩
abbrev main_v40 : Ref sig .tc := ⟨.hbm, 58, rfl⟩
abbrev main_call3_v0 : Ref sig .tc := ⟨.hbm, 59, rfl⟩
abbrev main_v41 : Ref sig .tc := ⟨.hbm, 60, rfl⟩

abbrev nD : Nat := 1
abbrev τ : Topo := Topo.v7x

variable {F : FTy → Type} [FloatOps F]
-- ==== Proof.Cosine.lean ====
/-
  The real analysis of the window: how far the kernel's polynomial in the distance `w` to the nearest period (counted in
  periods) lies from the cosine window `cos (2πw) / 2 + 1/2` it stands for, and what that means for the quotient of
  the window by `t`. Nothing here mentions the programs.
-/
module

public import Mathlib.Analysis.SpecialFunctions.Trigonometric.DerivHyp
public import Mathlib.Analysis.Complex.RealDeriv
public import Mathlib.Analysis.Calculus.Deriv.MeanValue

@[expose] public section

namespace Cert.Proof.Cosine

open Real

/-! ## Taylor bounds of the cosine -/

/-- The cosine's derivative: the real part of that of `exp (i x)`. -/
theorem deriv_cos (x : ℝ) : HasDerivAt cos (-sin x) x := by
  have h : HasDerivAt (fun z : ℂ => Complex.exp (z * Complex.I)) (Complex.exp (x * Complex.I) * Complex.I) x := by
    simpa using ((hasDerivAt_id (x : ℂ)).mul_const Complex.I).cexp
  have h' := h.real_of_complex
  simpa [Complex.exp_ofReal_mul_I_re, Complex.exp_ofReal_mul_I_im] using h'

/-- The sine's derivative: the real part of that of `-i exp (i x)`. -/
theorem deriv_sin (x : ℝ) : HasDerivAt sin (cos x) x := by
  have h : HasDerivAt (fun z : ℂ => Complex.exp (z * Complex.I) * -Complex.I)
      (Complex.exp (x * Complex.I) * Complex.I * -Complex.I) x := by
    simpa using (((hasDerivAt_id (x : ℂ)).mul_const Complex.I).cexp).mul_const (-Complex.I)
  have h' := h.real_of_complex
  simpa [Complex.exp_ofReal_mul_I_re, Complex.exp_ofReal_mul_I_im] using h'

/-- A function that vanishes at zero and whose derivative is nonnegative at all nonnegative reals is nonnegative there. -/
theorem nonneg_of_deriv (f f' : ℝ → ℝ) (hf : ∀ x, HasDerivAt f (f' x) x) (h0 : f 0 = 0) (h : ∀ x, 0 ≤ x → 0 ≤ f' x)
    (x : ℝ) (hx : 0 ≤ x) : 0 ≤ f x := by
  have hm : MonotoneOn f (Set.Ici 0) := by
    refine monotoneOn_of_deriv_nonneg (convex_Ici 0) (fun y _ => (hf y).continuousAt.continuousWithinAt)
      (fun y _ => (hf y).differentiableAt.differentiableWithinAt) fun y hy => ?_
    rw [(hf y).deriv]
    rw [interior_Ici] at hy
    exact h y (le_of_lt hy)
  have := hm (Set.mem_Ici.mpr le_rfl) (Set.mem_Ici.mpr hx) hx
  rwa [h0] at this

/-- One step up: from a bound of the cosine by an integrated polynomial to the bound of the sine. -/
theorem sin_le_two (x : ℝ) (hx : 0 ≤ x) : 0 ≤ x - sin x :=
  nonneg_of_deriv (fun x => x - sin x) (fun x => 1 - cos x) (fun x => (hasDerivAt_id x).sub (deriv_sin x)) (by simp)
    (fun x _ => by linarith [cos_le_one x]) x hx

/-- `1 - x²/2 ≤ cos x`. -/
theorem cos_two (x : ℝ) (hx : 0 ≤ x) : 0 ≤ cos x - (1 - x ^ 2 / 2) :=
  nonneg_of_deriv (fun x => cos x - (1 - x ^ 2 / 2)) (fun x => x - sin x)
    (fun x => by
      have h := (deriv_cos x).sub (((hasDerivAt_pow 2 x).div_const 2).const_sub 1)
      exact h.congr_deriv (by norm_num <;> ring)) (by simp) sin_le_two x hx

/-- `x - x³/6 ≤ sin x`. -/
theorem sin_three (x : ℝ) (hx : 0 ≤ x) : 0 ≤ sin x - (x - x ^ 3 / 6) :=
  nonneg_of_deriv (fun x => sin x - (x - x ^ 3 / 6)) (fun x => cos x - (1 - x ^ 2 / 2))
    (fun x => by
      have h := (deriv_sin x).sub ((hasDerivAt_id x).sub ((hasDerivAt_pow 3 x).div_const 6))
      exact h.congr_deriv (by norm_num <;> ring)) (by simp) cos_two x hx

/-- `cos x ≤ 1 - x²/2 + x⁴/24`. -/
theorem cos_four (x : ℝ) (hx : 0 ≤ x) : 0 ≤ (1 - x ^ 2 / 2 + x ^ 4 / 24) - cos x :=
  nonneg_of_deriv (fun x => (1 - x ^ 2 / 2 + x ^ 4 / 24) - cos x) (fun x => sin x - (x - x ^ 3 / 6))
    (fun x => by
      have h := (((((hasDerivAt_pow 2 x).div_const 2).const_sub 1)).add ((hasDerivAt_pow 4 x).div_const 24)).sub (deriv_cos x)
      exact h.congr_deriv (by norm_num <;> ring)) (by simp) sin_three x hx

/-- `sin x ≤ x - x³/6 + x⁵/120`. -/
theorem sin_five (x : ℝ) (hx : 0 ≤ x) : 0 ≤ (x - x ^ 3 / 6 + x ^ 5 / 120) - sin x :=
  nonneg_of_deriv (fun x => (x - x ^ 3 / 6 + x ^ 5 / 120) - sin x) (fun x => (1 - x ^ 2 / 2 + x ^ 4 / 24) - cos x)
    (fun x => by
      have h := (((hasDerivAt_id x).sub ((hasDerivAt_pow 3 x).div_const 6)).add ((hasDerivAt_pow 5 x).div_const 120)).sub (deriv_sin x)
      exact h.congr_deriv (by norm_num <;> ring)) (by simp) cos_four x hx

/-- `1 - x²/2 + x⁴/24 - x⁶/720 ≤ cos x`. -/
theorem cos_six (x : ℝ) (hx : 0 ≤ x) : 0 ≤ cos x - (1 - x ^ 2 / 2 + x ^ 4 / 24 - x ^ 6 / 720) :=
  nonneg_of_deriv (fun x => cos x - (1 - x ^ 2 / 2 + x ^ 4 / 24 - x ^ 6 / 720)) (fun x => (x - x ^ 3 / 6 + x ^ 5 / 120) - sin x)
    (fun x => by
      have h := (deriv_cos x).sub ((((((hasDerivAt_pow 2 x).div_const 2).const_sub 1)).add
        ((hasDerivAt_pow 4 x).div_const 24)).sub ((hasDerivAt_pow 6 x).div_const 720))
      exact h.congr_deriv (by norm_num <;> ring)) (by simp) sin_five x hx

/-- `x - x³/6 + x⁵/120 - x⁷/5040 ≤ sin x`. -/
theorem sin_seven (x : ℝ) (hx : 0 ≤ x) : 0 ≤ sin x - (x - x ^ 3 / 6 + x ^ 5 / 120 - x ^ 7 / 5040) :=
  nonneg_of_deriv (fun x => sin x - (x - x ^ 3 / 6 + x ^ 5 / 120 - x ^ 7 / 5040))
    (fun x => cos x - (1 - x ^ 2 / 2 + x ^ 4 / 24 - x ^ 6 / 720))
    (fun x => by
      have h := (deriv_sin x).sub ((((hasDerivAt_id x).sub ((hasDerivAt_pow 3 x).div_const 6)).add
        ((hasDerivAt_pow 5 x).div_const 120)).sub ((hasDerivAt_pow 7 x).div_const 5040))
      exact h.congr_deriv (by norm_num <;> ring)) (by simp) cos_six x hx

/-- `cos x ≤ 1 - x²/2 + x⁴/24 - x⁶/720 + x⁸/40320`. -/
theorem cos_eight (x : ℝ) (hx : 0 ≤ x) : 0 ≤ (1 - x ^ 2 / 2 + x ^ 4 / 24 - x ^ 6 / 720 + x ^ 8 / 40320) - cos x :=
  nonneg_of_deriv (fun x => (1 - x ^ 2 / 2 + x ^ 4 / 24 - x ^ 6 / 720 + x ^ 8 / 40320) - cos x)
    (fun x => sin x - (x - x ^ 3 / 6 + x ^ 5 / 120 - x ^ 7 / 5040))
    (fun x => by
      have h := ((((((hasDerivAt_pow 2 x).div_const 2).const_sub 1).add
        ((hasDerivAt_pow 4 x).div_const 24)).sub ((hasDerivAt_pow 6 x).div_const 720)).add
        ((hasDerivAt_pow 8 x).div_const 40320)).sub (deriv_cos x)
      exact h.congr_deriv (by norm_num <;> ring)) (by simp) sin_seven x hx

/-! ## The polynomial and the window -/

/-- The kernel's polynomial in the square `z` of the distance, with its three coefficients as the rationals they are. -/
noncomputable def poly (z : ℝ) : ℝ := (12868951 / 524288 * z + -(10298103 / 1048576)) * z + 8388153 / 8388608

/-- The cosine window at a distance of `w` periods. -/
noncomputable def window (w : ℝ) : ℝ := 1 / 2 * cos (2 * π * w) + 1 / 2

/-- The window is even, -/
theorem window_abs (w : ℝ) : window |w| = window w := by
  rcases abs_choice w with h | h <;> rw [h]
  unfold window; rw [mul_neg, cos_neg]

/-- and so is the polynomial in the square. -/
theorem poly_abs (w : ℝ) : poly (|w| * |w|) = poly (w * w) := by rw [abs_mul_abs_self]

/-- The circle number to five digits, from the sine of its sixth part. -/
theorem pi_bounds : 3.14157 ≤ π ∧ π ≤ 3.1416 := by
  have h6 := sin_pi_div_six
  have h2 := two_le_pi
  constructor
  · by_contra h
    have hlt : sin (π / 6) < sin 0.523595 :=
      sin_lt_sin_of_lt_of_le_pi_div_two (by linarith) (by linarith) (by linarith)
    have h5 := sin_five 0.523595 (by norm_num)
    norm_num at h5 hlt
    linarith
  · by_contra h
    have hlt : sin 0.5236 < sin (π / 6) :=
      sin_lt_sin_of_lt_of_le_pi_div_two (by linarith) (by linarith) (by linarith)
    have h7 := sin_seven 0.5236 (by norm_num)
    norm_num at h7 hlt
    linarith

/-- The square of `2π` is `39.478` up to `10⁻³`. -/
theorem four_pi_sq : 39.4778 ≤ (2 * π) ^ 2 ∧ (2 * π) ^ 2 ≤ 39.4787 := by
  obtain ⟨h1, h2⟩ := pi_bounds
  constructor <;> nlinarith

/-- The window from below, in the square `A` of the angle. -/
theorem window_lower (w : ℝ) (hw : 0 ≤ w) (A : ℝ) (hA : A = (2 * π) ^ 2 * w ^ 2) :
    1 - A / 4 + A ^ 2 / 48 - A ^ 3 / 1440 ≤ window w := by
  have h := cos_six (2 * π * w) (by positivity)
  unfold window
  have e : A = (2 * π * w) ^ 2 := by rw [hA]; ring
  rw [e]; nlinarith

/-- The window from above, in the square `A` of the angle. -/
theorem window_upper (w : ℝ) (hw : 0 ≤ w) (A : ℝ) (hA : A = (2 * π) ^ 2 * w ^ 2) :
    window w ≤ 1 - A / 4 + A ^ 2 / 48 - A ^ 3 / 1440 + A ^ 4 / 80640 := by
  have h := cos_eight (2 * π * w) (by positivity)
  unfold window
  have e : A = (2 * π * w) ^ 2 := by rw [hA]; ring
  rw [e]; nlinarith

/-- The window is nonnegative and at most one. -/
theorem window_mem (w : ℝ) : 0 ≤ window w ∧ window w ≤ 1 := by
  unfold window
  constructor <;> linarith [neg_one_le_cos (2 * π * w), cos_le_one (2 * π * w)]

/-- The polynomial in the square `A` of the angle, from both sides: the coefficients over powers of `(2π)²` rounded. -/
theorem poly_bounds (z : ℝ) (hz : 0 ≤ z) (hz' : z ≤ 1 / 4) (A : ℝ) (hA : A = (2 * π) ^ 2 * z) :
    0.999945 - 0.248773 * A + 0.015748 * A ^ 2 ≤ poly z ∧ poly z ≤ 0.999946 - 0.248767 * A + 0.01575 * A ^ 2 := by
  obtain ⟨h1, h2⟩ := four_pi_sq
  have a1 : 39.4778 * z ≤ A := by rw [hA]; nlinarith
  have a2 : A ≤ 39.4787 * z := by rw [hA]; nlinarith
  have s1 : (39.4778 * z) ^ 2 ≤ A ^ 2 := pow_le_pow_left₀ (by positivity) a1 2
  have s2 : A ^ 2 ≤ (39.4787 * z) ^ 2 := pow_le_pow_left₀ (by linarith [mul_nonneg (by norm_num : (0:ℝ) ≤ 39.4778) hz]) a2 2
  unfold poly
  constructor <;> nlinarith [sq_nonneg z]

/-- Close to a period the polynomial is within `5.6 · 10⁻⁵` of the window. -/
theorem near_small (w : ℝ) (hw : 0 ≤ w) (hw' : w ≤ 0.0615) : |poly (w * w) - window w| ≤ 0.000056 := by
  obtain ⟨h1, h2⟩ := four_pi_sq
  obtain ⟨A, hA⟩ : ∃ A, A = (2 * π) ^ 2 * w ^ 2 := ⟨_, rfl⟩
  have hz : w * w ≤ 0.00378225 := by nlinarith
  have hz0 : 0 ≤ w * w := mul_nonneg hw hw
  have A0 : 0 ≤ A := by rw [hA]; positivity
  have A1 : A ≤ 0.1494 := by rw [hA]; nlinarith
  obtain ⟨p1, p2⟩ := poly_bounds (w * w) hz0 (by linarith) A (by rw [hA]; ring)
  have l := window_lower w hw A hA
  have u := window_upper w hw A hA
  have c3 : A ^ 3 ≤ 0.1494 * A ^ 2 := by nlinarith [sq_nonneg A]
  have c3' : 0 ≤ A ^ 3 := by positivity
  have c4 : A ^ 4 ≤ 0.1494 * A ^ 3 := by nlinarith [sq_nonneg A]
  rw [abs_le]
  constructor <;> nlinarith [sq_nonneg (A - 0.12)]

/-- The polynomial exceeds the window by little below two fifths of a period. -/
theorem above_inner (w : ℝ) (hw : 0 ≤ w) (hw' : w ≤ 2 / 5) : poly (w * w) - window w ≤ 0.05 * (w * w) := by
  obtain ⟨h1, h2⟩ := four_pi_sq
  obtain ⟨A, hA⟩ : ∃ A, A = (2 * π) ^ 2 * w ^ 2 := ⟨_, rfl⟩
  have hz : w * w ≤ 4 / 25 := by nlinarith
  have hz0 : 0 ≤ w * w := mul_nonneg hw hw
  have A0 : 0 ≤ A := by rw [hA]; positivity
  have A1 : A ≤ 39.4787 * (w * w) := by rw [hA]; nlinarith
  have p2 := (poly_bounds (w * w) hz0 (by linarith) A (by rw [hA]; ring)).2
  have l := window_lower w hw A hA
  have c3 : A ^ 3 ≤ 6.32 * A ^ 2 := by nlinarith [sq_nonneg A]
  nlinarith [sq_nonneg A]

/-- Beyond two fifths of a period the window is no less than zero, and the polynomial itself is small. -/
theorem above_outer (w : ℝ) (hw : 2 / 5 ≤ w) (hw' : w ≤ 1 / 2) : poly (w * w) - window w ≤ 0.057 + 0.22 * (w - 0.4) := by
  have h := (window_mem w).1
  unfold poly
  nlinarith [mul_nonneg (sub_nonneg.mpr hw) (sub_nonneg.mpr hw'), sq_nonneg (w - 0.45)]

/-- How far the polynomial can lie below the window, within half a period. -/
theorem below (w : ℝ) (hw : 0 ≤ w) (hw' : w ≤ 1 / 2) :
    window w - poly (w * w) ≤ 0.00006 + 0.728 * (w * w) - 2.95 * (w * w) ^ 2 := by
  obtain ⟨h1, h2⟩ := four_pi_sq
  obtain ⟨A, hA⟩ : ∃ A, A = (2 * π) ^ 2 * w ^ 2 := ⟨_, rfl⟩
  have hz : w * w ≤ 1 / 4 := by nlinarith
  have hz0 : 0 ≤ w * w := mul_nonneg hw hw
  have A0 : 0 ≤ A := by rw [hA]; positivity
  have a1 : 39.4778 * (w * w) ≤ A := by rw [hA]; nlinarith
  have A1 : A ≤ 39.4787 * (w * w) := by rw [hA]; nlinarith
  have p1 := (poly_bounds (w * w) hz0 hz A (by rw [hA]; ring)).1
  have u := window_upper w hw A hA
  have f : 0.0050854 * A - A ^ 2 / 1440 + A ^ 3 / 80640 ≤ 0.01966 - 0.0019 * A := by
    have hA' : A ≤ 9.87 := by linarith
    nlinarith [mul_nonneg (sq_nonneg (A - 6)) (sub_nonneg.mpr hA'), sq_nonneg (A - 6)]
  have f' := mul_le_mul_of_nonneg_left f A0
  have s1 : (39.4778 * (w * w)) ^ 2 ≤ A ^ 2 := pow_le_pow_left₀ (by positivity) a1 2
  nlinarith

/-- Within half a period the polynomial is within `0.1525 w + 0.0039` of the window. -/
theorem near_line (w : ℝ) (hw : 0 ≤ w) (hw' : w ≤ 1 / 2) : |poly (w * w) - window w| ≤ 0.1525 * w + 0.0039 := by
  have b := below w hw hw'
  rw [abs_le]
  constructor
  · have c : 0.728 * w - 2.95 * w ^ 3 ≤ 0.1525 := by
      nlinarith [mul_nonneg hw (sq_nonneg (w - 0.2868)), sq_nonneg (w - 0.2868)]
    nlinarith [mul_le_mul_of_nonneg_left c hw]
  · rcases le_total w (2 / 5) with h | h
    · nlinarith [above_inner w hw h]
    · linarith [above_outer w h hw']

/-- Beyond a sixteenth of a period, within half a period, the polynomial is within `0.171 w - 0.00457` of the window. -/
theorem near_chord (w : ℝ) (hw : 0.0615 ≤ w) (hw' : w ≤ 1 / 2) : |poly (w * w) - window w| ≤ 0.171 * w - 0.00457 := by
  have hw0 : 0 ≤ w := by linarith
  have b := below w hw0 hw'
  rw [abs_le]
  constructor
  · nlinarith [sq_nonneg (w * w - 0.0676), sq_nonneg (w - 0.26), mul_nonneg (sub_nonneg.mpr hw) (sub_nonneg.mpr hw')]
  · rcases le_total w (2 / 5) with h | h
    · nlinarith [above_inner w hw0 h, mul_nonneg (sub_nonneg.mpr hw) (sub_nonneg.mpr h)]
    · linarith [above_outer w h hw']

/-! ## The quotients -/

/-- The sine is no larger than its argument. -/
theorem abs_sin_le (x : ℝ) : |sin x| ≤ |x| := by
  have key : ∀ y : ℝ, 0 ≤ y → |sin y| ≤ y := fun y hy => by
    have h1 := sin_le_two y hy
    have h2 := nonneg_of_deriv (fun x => x + sin x) (fun x => 1 + cos x) (fun x => (hasDerivAt_id x).add (deriv_sin x))
      (by simp) (fun x _ => by linarith [neg_one_le_cos x]) y hy
    rw [abs_le]; constructor <;> linarith
  have h := key |x| (abs_nonneg x)
  rcases abs_choice x with e | e <;> rw [e] at h ⊢
  · exact h
  · rwa [sin_neg, abs_neg] at h

/-- The cosine moves no more than its argument. -/
theorem cos_lipschitz (a b : ℝ) : |cos a - cos b| ≤ |a - b| := by
  rw [cos_sub_cos, abs_mul, abs_mul, abs_neg, abs_two]
  have h1 := abs_sin_le_one ((a + b) / 2)
  have h2 : |sin ((a - b) / 2)| ≤ |a - b| / 2 := by
    have := abs_sin_le ((a - b) / 2)
    rwa [abs_div, abs_two] at this
  nlinarith [abs_nonneg (sin ((a - b) / 2)), abs_nonneg (sin ((a + b) / 2))]

/-- The window as the problem writes it at `t`, with the circle number's float in the circle number's place. -/
noncomputable def written (t : ℝ) : ℝ := 1 / 2 * cos (13176795 / 4194304 * (t - 3 / 10) / (6 - 3 / 10)) + 1 / 2

/-- It lies close to the window at the same number of periods. -/
theorem written_near (t u : ℝ) (hu : u = 5 / 57 * t - 1 / 38) : |written t - window u| ≤ 0.000023 * |u| := by
  have h := cos_lipschitz (13176795 / 4194304 * (t - 3 / 10) / (6 - 3 / 10)) (2 * π * u)
  have e : 13176795 / 4194304 * (t - 3 / 10) / (6 - 3 / 10) - 2 * π * u = 2 * (13176795 / 4194304 - π) * u := by
    rw [hu]; ring
  rw [e, abs_mul, abs_mul, abs_two] at h
  have hp : |13176795 / 4194304 - π| ≤ 0.000023 := by
    obtain ⟨h1, h2⟩ := pi_bounds
    rw [abs_le]; constructor <;> linarith
  have e2 : written t - window u
      = 1 / 2 * (cos (13176795 / 4194304 * (t - 3 / 10) / (6 - 3 / 10)) - cos (2 * π * u)) := by
    unfold written window; ring
  rw [e2, abs_mul, abs_of_pos (by norm_num : (0 : ℝ) < 1 / 2)]
  nlinarith [mul_le_mul_of_nonneg_right hp (abs_nonneg u)]

/-- The window has period one. -/
theorem window_sub_int (u : ℝ) (n : ℤ) : window (u - n) = window u := by
  unfold window
  rw [show 2 * π * (u - n) = 2 * π * u - n * (2 * π) by ring, cos_sub_int_mul_two_pi]

/-- Both distances together: the polynomial lies as far from the written window as from the window, up to a little. -/
theorem near_written (t u w : ℝ) (n : ℤ) (hu : u = 5 / 57 * t - 1 / 38) (hn : w = u - n) :
    |poly (w * w) - written t| ≤ |poly (|w| * |w|) - window (|w|)| + 0.000023 * |u| := by
  have hW := written_near t u hu
  rw [window_abs, poly_abs, hn, window_sub_int]
  have := abs_sub_le (poly ((u - n) * (u - n))) (window u) (written t)
  rw [abs_sub_comm (window u)] at this
  linarith

/-- From `t = -0.4` to `t = 1` the window is close to one and the polynomial close to it. -/
theorem near_one (t u w : ℝ) (n : ℤ) (ht : -0.4 ≤ t) (h : t ≤ 1) (hu : u = 5 / 57 * t - 1 / 38) (hn : w = u - n)
    (h1 : |w| ≤ |u|) :
    |poly (w * w) - written t| ≤ 0.00006 ∧ 0.9 ≤ poly (w * w) ∧ 0.8 ≤ written t := by
  have hU : |u| ≤ 0.0615 := by rw [hu, abs_le]; constructor <;> linarith
  have hs := near_small |w| (abs_nonneg w) (h1.trans hU)
  have hg : 0.9 ≤ poly (w * w) := by
    have : w * w ≤ 0.0615 * 0.0615 := by
      rw [← abs_mul_abs_self]; exact mul_le_mul (h1.trans hU) (h1.trans hU) (abs_nonneg w) (by norm_num)
    unfold poly; nlinarith [mul_self_nonneg w]
  have hd : |poly (w * w) - written t| ≤ 0.00006 := by linarith [near_written t u w n hu hn]
  exact ⟨hd, hg, by linarith [(abs_le.mp hd).2]⟩

/-- From `t = 1` on the polynomial is within `0.015 t` of the window. -/
theorem near_right (t u w : ℝ) (n : ℤ) (ht : 1 ≤ t) (hu : u = 5 / 57 * t - 1 / 38) (hn : w = u - n) (h1 : |w| ≤ |u|)
    (h2 : |w| ≤ 1 / 2) : |poly (w * w) - written t| ≤ 16106127 / 1073741824 * |t| := by
  have hU : |u| = u := abs_of_pos (by rw [hu]; linarith)
  have hl := near_line |w| (abs_nonneg w) h2
  have tri := near_written t u w n hu hn
  rw [abs_of_pos (by linarith : 0 < t)]
  rw [hU] at h1 tri; rw [hu] at h1 tri; linarith

/-- Up to `t = -0.4` the polynomial is within `0.015 |t|` of the window. -/
theorem near_left (t u w : ℝ) (n : ℤ) (ht : t ≤ -0.4) (hu : u = 5 / 57 * t - 1 / 38) (hn : w = u - n) (h1 : |w| ≤ |u|)
    (h2 : |w| ≤ 1 / 2) : |poly (w * w) - written t| ≤ 16106127 / 1073741824 * |t| := by
  have hU : |u| = -u := abs_of_neg (by rw [hu]; linarith)
  have tri := near_written t u w n hu hn
  rw [abs_of_neg (by linarith : t < 0)]
  rcases le_total |w| 0.0615 with h | h
  · have hs := near_small |w| (abs_nonneg w) h
    rw [hU] at tri; rw [hu] at tri; linarith
  · have hl := near_chord |w| h h2
    rw [hU] at h1 tri; rw [hu] at h1 tri; linarith

/-- The polynomial at the distance `w` from `u` to an integer against the window written at `t`, both over `t`:
    they differ by at most `0.015` and a ten thousandth of the second. -/
theorem quotient (t u w : ℝ) (n : ℤ) (ht : t ≠ 0) (hu : u = 5 / 57 * t - 1 / 38) (hn : w = u - n) (h1 : |w| ≤ |u|)
    (h2 : |w| ≤ 1 / 2) :
    |1 / t * poly (w * w) - 1 / t * written t|
      ≤ 16106127 / 1073741824 + 13743895 / 137438953472 * |1 / t * written t| := by
  have hk : |1 / t| * |t| = 1 := by rw [← abs_mul, one_div_mul_cancel ht, abs_one]
  have hk0 : 0 ≤ |1 / t| := abs_nonneg _
  rw [← mul_sub, abs_mul, abs_mul]
  have far (h : |poly (w * w) - written t| ≤ 16106127 / 1073741824 * |t|) :
      |1 / t| * |poly (w * w) - written t|
        ≤ 16106127 / 1073741824 + 13743895 / 137438953472 * (|1 / t| * |written t|) := by
    have := mul_le_mul_of_nonneg_left h hk0
    rw [mul_left_comm, hk, mul_one] at this
    linarith [mul_nonneg hk0 (abs_nonneg (written t))]
  rcases le_total t 1 with h | h
  · rcases le_total (-0.4) t with h' | h'
    · obtain ⟨hd, _, hr⟩ := near_one t u w n h' h hu hn h1
      have : |poly (w * w) - written t| ≤ 13743895 / 137438953472 * |written t| := by
        linarith [le_abs_self (written t)]
      linarith [mul_le_mul_of_nonneg_left this hk0]
    · exact far (near_left t u w n h' hu hn h1 h2)
  · exact far (near_right t u w n h hu hn h1 h2)

end Cert.Proof.Cosine

end
-- ==== Proof.Scalar.lean ====
/-
  The two functions of an entry `v` and of the first entry `a` of its row: what the kernel computes and what the problem
  states, over the extended reals. Where `a` is no larger than the outer radius and `v` is not minus infinity they are
  equal when the problem's window is the polynomial; they are close everywhere when it is the cosine.
-/
module

public import proofs.«01_k».proof.Proof.Cosine
public import Idealize.ShloMosaic.PureOps.Ideal

@[expose] public section

noncomputable section

namespace Cert.Proof.Scalar

open Idealize.ShloMosaic Cosine

/-! ## The functions -/

/-- The distance of `p` from the nearest integer, with its sign. -/
def off (p : EReal) : EReal := p - Ideal.liftRound Ideal.roundHalfEven p

/-- The radius `t` an entry stands for: in a row that begins inside the inner radius its reciprocal, else itself. -/
def radius (a v : EReal) : EReal := if a < ((3 / 10 : ℝ) : EReal) then Ideal.div 1 v else v

/-- The window's argument in periods, as the kernel computes it. -/
def periods (t : EReal) : EReal := t * ((5 / 57 : ℝ) : EReal) - ((1 / 38 : ℝ) : EReal)

/-- The kernel's polynomial, in Horner's form. -/
def kernelPoly (p : EReal) : EReal :=
  (((12868951 / 524288 : ℝ) : EReal) * (off p * off p) + ((-(10298103 / 1048576) : ℝ) : EReal)) * (off p * off p)
    + ((8388153 / 8388608 : ℝ) : EReal)

/-- What the kernel computes: where the radius is a reciprocal, the entry itself is the radius's reciprocal. -/
def entry (a v : EReal) : EReal :=
  (if a < ((3 / 10 : ℝ) : EReal) then v else Ideal.div 1 v) * kernelPoly (periods (radius a v))

/-- The window's argument in units of `π`, as the problem states it. -/
def scaled (t : EReal) : EReal := Ideal.div (t - ((3 / 10 : ℝ) : EReal)) (((6 : ℝ) : EReal) - ((3 / 10 : ℝ) : EReal))

/-- The problem's polynomial in place of its window. -/
def cutoff (t : EReal) : EReal :=
  ((8388153 / 8388608 : ℝ) : EReal)
      - ((10298103 / 1048576 : ℝ) : EReal) * (off (Ideal.div (scaled t) ((2 : ℝ) : EReal)) * off (Ideal.div (scaled t) ((2 : ℝ) : EReal)))
    + ((12868951 / 524288 : ℝ) : EReal)
      * (off (Ideal.div (scaled t) ((2 : ℝ) : EReal)) * off (Ideal.div (scaled t) ((2 : ℝ) : EReal))
        * (off (Ideal.div (scaled t) ((2 : ℝ) : EReal)) * off (Ideal.div (scaled t) ((2 : ℝ) : EReal))))

/-- The problem's window with the cosine. -/
def cosine (t : EReal) : EReal :=
  ((1 / 2 : ℝ) : EReal)
      * Ideal.cos (Ideal.div (((13176795 / 4194304 : ℝ) : EReal) * (t - ((3 / 10 : ℝ) : EReal))) (((6 : ℝ) : EReal) - ((3 / 10 : ℝ) : EReal)))
    + ((1 / 2 : ℝ) : EReal)

/-- What the problem states, with a window `f`. -/
def stated (f : EReal → EReal) (a v : EReal) : EReal := Ideal.div 1 (radius a v) * f (radius a v)

/-! ## At the reals -/

/-- The periods at a real radius, -/
def turns (t : ℝ) : ℝ := 5 / 57 * t - 1 / 38

/-- and their distance from the nearest integer. -/
def dist (t : ℝ) : ℝ := turns t - Ideal.roundHalfEven (turns t)

/-- A rounded real is within a half of the real. -/
theorem round_near (r : ℝ) : |r - Ideal.roundHalfEven r| ≤ 1 / 2 := by
  have h1 := Int.floor_le r
  have h2 := Int.lt_floor_add_one r
  unfold Ideal.roundHalfEven
  dsimp only
  rw [abs_le]
  split_ifs <;> push_cast <;> constructor <;> linarith

/-- The distance from the nearest integer is at most a half. -/
theorem dist_half (t : ℝ) : |dist t| ≤ 1 / 2 := round_near _

/-- No integer is further from a real than zero is, if it is within a half. -/
theorem dist_turns (t : ℝ) : |dist t| ≤ |turns t| := by
  have h := dist_half t
  unfold dist at h ⊢
  generalize Ideal.roundHalfEven (turns t) = n at h ⊢
  rcases eq_or_ne n 0 with rfl | hn
  · simp
  · have h1 : (1 : ℝ) ≤ |(n : ℝ)| := by exact_mod_cast Int.one_le_abs hn
    have h2 := abs_sub_abs_le_abs_sub (n : ℝ) (turns t)
    rw [abs_sub_comm] at h2
    linarith

/-- The distance of a real from the nearest integer is a real. -/
theorem off_coe (p : ℝ) : off (p : EReal) = ((p - Ideal.roundHalfEven p : ℝ) : EReal) := by
  unfold off; rw [Ideal.liftRound_coe, ← EReal.coe_sub]

/-- The kernel's argument at a real radius is a real. -/
theorem periods_coe (t : ℝ) : periods (t : EReal) = ((turns t : ℝ) : EReal) := by
  unfold periods turns; rw [← EReal.coe_mul, ← EReal.coe_sub, mul_comm]

/-- The kernel's polynomial at a real radius. -/
theorem kernelPoly_coe (t : ℝ) : kernelPoly (periods (t : EReal)) = ((poly (dist t * dist t) : ℝ) : EReal) := by
  unfold kernelPoly
  rw [periods_coe, off_coe]
  simp only [← EReal.coe_mul, ← EReal.coe_add]
  rfl

/-- The two radii lie `5.7` apart. -/
theorem span_coe : ((6 : ℝ) : EReal) - ((3 / 10 : ℝ) : EReal) = ((57 / 10 : ℝ) : EReal) := by
  rw [← EReal.coe_sub]; norm_num

/-- Half the scaled argument is the argument in periods. -/
theorem scaled_coe (t : ℝ) : Ideal.div (scaled (t : EReal)) ((2 : ℝ) : EReal) = ((turns t : ℝ) : EReal) := by
  unfold scaled turns
  rw [span_coe, Ideal.div_coe (by norm_num), Ideal.div_coe (by norm_num)]
  simp only [← EReal.coe_mul, ← EReal.coe_sub]
  congr 1; ring

/-- The problem's polynomial at a real radius is the kernel's. -/
theorem cutoff_coe (t : ℝ) : cutoff (t : EReal) = ((poly (dist t * dist t) : ℝ) : EReal) := by
  unfold cutoff
  rw [scaled_coe, off_coe]
  simp only [← EReal.coe_mul, ← EReal.coe_add, ← EReal.coe_sub]
  congr 1
  unfold poly dist
  ring

/-- The cosine window at a real radius. -/
theorem cosine_coe (t : ℝ) : cosine (t : EReal) = ((written t : ℝ) : EReal) := by
  unfold cosine
  rw [span_coe, Ideal.div_coe (by norm_num)]
  simp only [← EReal.coe_mul, ← EReal.coe_add, ← EReal.coe_sub, Ideal.cos_coe]
  congr 1
  unfold written
  congr 3; ring

/-! ## Reciprocals -/

/-- The reciprocal of infinity is zero, -/
theorem div_top : Ideal.div 1 ⊤ = 0 := by simp [Ideal.div]

/-- so is that of minus infinity, -/
theorem div_bot : Ideal.div 1 ⊥ = 0 := by simp [Ideal.div]

/-- that of zero is infinity, -/
theorem div_zero : Ideal.div 1 0 = ⊤ := by simp [Ideal.div]

/-- and that of any other real is the real one. -/
theorem div_real (t : ℝ) (h : t ≠ 0) : Ideal.div 1 (t : EReal) = ((1 / t : ℝ) : EReal) := by
  rw [Ideal.div_coe h, one_mul]

/-- The reciprocal of the reciprocal, of all but minus infinity. -/
theorem div_div (v : EReal) (h : v ≠ ⊥) : Ideal.div 1 (Ideal.div 1 v) = v := by
  induction v with
  | bot => exact absurd rfl h
  | top => rw [div_top, div_zero]
  | coe r =>
    rcases eq_or_ne r 0 with rfl | hr
    · rw [EReal.coe_zero, div_zero, div_top]
    · rw [div_real r hr, div_real _ (one_div_ne_zero hr), one_div_one_div]

/-- The kernel's reciprocal of the radius is the radius's reciprocal. -/
theorem entry_eq (a v : EReal) (h : v ≠ ⊥) : entry a v = stated (fun t => kernelPoly (periods t)) a v := by
  unfold entry stated radius
  split_ifs with ha
  · rw [div_div v h]
  · rfl

/-- No radius is minus infinity. -/
theorem radius_ne_bot (a v : EReal) (h : v ≠ ⊥) : radius a v ≠ ⊥ := by
  unfold radius
  split_ifs with ha
  · intro e
    have := div_div v h
    rw [e] at this
    simp [Ideal.div] at this
    rw [← this] at e
    rw [div_zero] at e
    exact absurd e (by simp)
  · exact h

/-- THE EQUATION: what the kernel computes at an entry is what the problem states there, with the polynomial. -/
theorem equation (a v : EReal) (h : v ≠ ⊥) : entry a v = stated cutoff a v := by
  rw [entry_eq a v h]
  unfold stated
  have hb := radius_ne_bot a v h
  generalize radius a v = t at hb ⊢
  induction t with
  | bot => exact absurd rfl hb
  | top => rw [div_top, zero_mul, zero_mul]
  | coe r => exact congrArg (_ * ·) ((kernelPoly_coe r).trans (cutoff_coe r).symm)

/-! ## The distance to the cosine -/

/-- The absolute value, as the ideal instance writes it, of a real. -/
theorem abs_coe (x : ℝ) : max (x : EReal) (-(x : EReal)) = ((|x| : ℝ) : EReal) := by
  rw [← EReal.coe_neg, abs_eq_max_neg]; exact (EReal.coe_strictMono.monotone.map_max).symm

/-- The bound asked of the distance between `o` and `r`. -/
def Close (o r : EReal) : Prop :=
  max (o - r) (-(o - r))
    ≤ ((16106127 / 1073741824 : ℝ) : EReal) + ((13743895 / 137438953472 : ℝ) : EReal) * max r (-r)

/-- Anything is close to plus infinity. -/
theorem close_top (o : EReal) : Close o ⊤ := by
  unfold Close
  rw [max_eq_left (by simp : -(⊤ : EReal) ≤ ⊤), EReal.coe_mul_top_of_pos (by norm_num), EReal.coe_add_top]
  exact le_top

/-- Zero is close to zero. -/
theorem close_zero : Close 0 0 := by
  unfold Close
  simp only [sub_zero, neg_zero, max_self, mul_zero, add_zero]
  exact_mod_cast (by norm_num : (0 : ℝ) ≤ 16106127 / 1073741824)

/-- Where the radius is zero the problem states infinity. -/
theorem cosine_zero : Ideal.div 1 0 * cosine 0 = ⊤ := by
  obtain ⟨_, _, h⟩ := near_one 0 (turns 0) (dist 0) _ (by norm_num) zero_le_one rfl rfl (dist_turns 0)
  rw [div_zero, ← EReal.coe_zero, cosine_coe, EReal.top_mul_coe_of_pos (by linarith)]

/-- What the kernel computes, over the radius, is close to what the problem states with the cosine, at every radius. -/
theorem close_radius (t : EReal) : Close (Ideal.div 1 t * kernelPoly (periods t)) (Ideal.div 1 t * cosine t) := by
  induction t with
  | bot => rw [div_bot, zero_mul, zero_mul]; exact close_zero
  | top => rw [div_top, zero_mul, zero_mul]; exact close_zero
  | coe r =>
    rcases eq_or_ne r 0 with rfl | hr
    · rw [EReal.coe_zero, cosine_zero]; exact close_top _
    · have hq := quotient r (turns r) (dist r) _ hr rfl rfl (dist_turns r) (dist_half r)
      unfold Close
      rw [kernelPoly_coe, cosine_coe, div_real r hr]
      simp only [← EReal.coe_mul, ← EReal.coe_sub, abs_coe, ← EReal.coe_add]
      exact EReal.coe_le_coe_iff.mpr hq

/-- THE DISTANCE: the kernel is close to what the problem states with the cosine. -/
theorem close (a v : EReal) : Close (entry a v) (stated cosine a v) := by
  rcases eq_or_ne v ⊥ with rfl | h
  · unfold stated entry radius
    split_ifs with ha
    · rw [div_bot, cosine_zero]; exact close_top _
    · exact close_radius ⊥
  · rw [entry_eq a v h]; exact close_radius _

end Cert.Proof.Scalar

end
-- ==== Proof.Consts.lean ====
/-
  The float constants of the programs and predicates, as the extended reals their words denote at the ideal instance.
-/
module

public import Idealize.ShloMosaic.PureOps.Ideal

@[expose] public section

noncomputable section

namespace Cert.Proof.Consts

open Idealize.ShloMosaic

/-- The word of `6`. -/
theorem six : Ideal.ofBits .f32 0x40C00000#32 = ((6 : ℝ) : EReal) := by
  simp [Ideal.ofBits, Ideal.ieee, -EReal.coe_mul]; norm_num

/-- The word of `3`. -/
theorem three : Ideal.ofBits .f32 0x40400000#32 = ((3 : ℝ) : EReal) := by
  simp [Ideal.ofBits, Ideal.ieee, -EReal.coe_mul]; norm_num

/-- The word of `10`. -/
theorem ten : Ideal.ofBits .f32 0x41200000#32 = ((10 : ℝ) : EReal) := by
  simp [Ideal.ofBits, Ideal.ieee, -EReal.coe_mul]; norm_num

/-- The word of `2`. -/
theorem two : Ideal.ofBits .f32 0x40000000#32 = ((2 : ℝ) : EReal) := by
  simp [Ideal.ofBits, Ideal.ieee, -EReal.coe_mul]; norm_num

/-- The word of `1/2`. -/
theorem half : Ideal.ofBits .f32 0x3F000000#32 = ((1 / 2 : ℝ) : EReal) := by
  simp [Ideal.ofBits, Ideal.ieee, -EReal.coe_mul]; norm_num

/-- The polynomial's constant coefficient. -/
theorem c0 : Ideal.ofBits .f32 0x3F7FFC72#32 = ((8388153 / 8388608 : ℝ) : EReal) := by
  simp [Ideal.ofBits, Ideal.ieee, -EReal.coe_mul]; norm_num

/-- The size of its linear coefficient, -/
theorem c1 : Ideal.ofBits .f32 0x411D22F7#32 = ((10298103 / 1048576 : ℝ) : EReal) := by
  simp [Ideal.ofBits, Ideal.ieee, -EReal.coe_mul]; norm_num

/-- and that coefficient. -/
theorem c1_neg : Ideal.ofBits .f32 0xC11D22F7#32 = ((-(10298103 / 1048576) : ℝ) : EReal) := by
  simp [Ideal.ofBits, Ideal.ieee, -EReal.coe_mul]; norm_num

/-- Its quadratic coefficient. -/
theorem c2 : Ideal.ofBits .f32 0x41C45D57#32 = ((12868951 / 524288 : ℝ) : EReal) := by
  simp [Ideal.ofBits, Ideal.ieee, -EReal.coe_mul]; norm_num

/-- The word of the circle number. -/
theorem pi_word : Ideal.ofBits .f32 0x40490FDB#32 = ((13176795 / 4194304 : ℝ) : EReal) := by
  simp [Ideal.ofBits, Ideal.ieee, -EReal.coe_mul]; norm_num

/-- The absolute bound, `0.015`. -/
theorem abs_bound : Ideal.ofBits .f32 0x3C75C28F#32 = ((16106127 / 1073741824 : ℝ) : EReal) := by
  simp [Ideal.ofBits, Ideal.ieee, -EReal.coe_mul]; norm_num

/-- The relative bound, `0.0001`. -/
theorem rel_bound : Ideal.ofBits .f32 0x38D1B717#32 = ((13743895 / 137438953472 : ℝ) : EReal) := by
  simp [Ideal.ofBits, Ideal.ieee, -EReal.coe_mul]; norm_num

/-- The word of minus infinity. -/
theorem minus_inf : Ideal.ofBits .f32 0xFF800000#32 = ⊥ := by
  simp [Ideal.ofBits, Ideal.ieee]

/-- The inner radius, the quotient of `3` and `10`. -/
theorem inner : Ideal.div ((3 : ℝ) : EReal) ((10 : ℝ) : EReal) = ((3 / 10 : ℝ) : EReal) := by
  rw [Ideal.div_coe (by norm_num), ← EReal.coe_mul]; norm_num

end Cert.Proof.Consts

end
-- ==== Proof.Block.lean ====
/-
  What the idealized kernel leaves in one staging block of 1024 rows. Its 128 chunks of 8 rows all compute one function
  of their chunk, which at an entry depends on the entry and on the first entry of its row; so the block is that
  function entry by entry.
-/
module

public import proofs.«01_k».proof.Proof.Scalar
public import proofs.«01_k».proof.Proof.Consts
public import proofs.«01_k».proof.Proof.Gen.KernelIdeal.Frame
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.Block

open Idealize.ShloMosaic Cert.KernelIdeal Cert.KernelIdeal.Gen Scalar

/-- The constant named `r_cs` is `3/10`, -/
theorem r_cs : Named.named (F := Ideal) (φ := .f32) κ "r_cs" 0x3E99999A#32 = ((3 / 10 : ℝ) : EReal) :=
  IdealRules.named_const.ideal_named_scalar _ _ _ _ rfl

/-- the one named `inv_period` is `5/57`, -/
theorem inv_period : Named.named (F := Ideal) (φ := .f32) κ "inv_period" 0x3DB3A62D#32 = ((5 / 57 : ℝ) : EReal) :=
  IdealRules.named_const.ideal_named_scalar _ _ _ _ rfl

/-- and the one named `cs_turns` is `1/38`. -/
theorem cs_turns : Named.named (F := Ideal) (φ := .f32) κ "cs_turns" 0x3CD79436#32 = ((1 / 38 : ℝ) : EReal) :=
  IdealRules.named_const.ideal_named_scalar _ _ _ _ rfl

/-- One chunk's payload at an entry. -/
theorem chunk_apply (v : Vec Ideal S8x2048 .f32) (r : Fin 8) (l : Fin 2048) :
    k0_pay2 v (ix2 r l) = entry (v (ix2 r 0)) (v (ix2 r l)) := by
  pointwise [k0_pay2]
  rw [r_cs, inv_period, cs_turns, Consts.c0, Consts.c1_neg, Consts.c2]
  rfl

/-- The function of a block that the kernel computes, entry by entry. -/
def blockOf (x : Vec Ideal S1024x2048 .f32) : Vec Ideal S1024x2048 .f32 := fun y => entry (x (ix2 (y 0) 0)) (x y)

/-- The chunk of 8 rows from row `o` on, computed from the block's rows there, is that part of the function. -/
theorem chunk_piece (x : Vec Ideal S1024x2048 .f32) (o : ℕ) (inb : ∀ a, ![o, 0] a + S8x2048.size a ≤ S1024x2048.size a)
    (j : S8x2048.Idx) :
    k0_pay2 (View.ld x (Rect.unit (s := S1024x2048) ![o, 0] S8x2048.size inb)) j
      = blockOf x ((Rect.unit (s := S1024x2048) ![o, 0] S8x2048.size inb).emb j) := by
  idx_vars j
  rw [chunk_apply]
  refine congrArg₂ entry (congrArg x (funext fun a => ?_)) rfl
  match a with
  | 0 => rfl
  | 1 => rfl

/-- THE BLOCK: the chunks' stores, each a part of the function, leave the function. -/
theorem block_eq (x : Vec Ideal S1024x2048 .f32) : out0_1 (F := Ideal) x = blockOf x := by
  funext y
  unfold out0_1
  refine View.canon_apply_of_pieces (Val := Elt Ideal) (e := .f32) (blockOf x) _ (View.PiecesOf.mem ?_) y
    (View.cover_of_tiled_head _ _ _ (by rfl) y)
  repeat' first | exact trivial | refine ⟨chunk_piece x _ _, ?_⟩

end Cert.Proof.Block

end
-- ==== Proof.Array.lean ====
/-
  The idealized kernel's result array: each grid point writes back its block of 1024 rows, the blocks lie side by side
  and cover the array, so the array is the kernel's function of the argument, entry by entry.
-/
module

public import proofs.«01_k».proof.Proof.Block
public import proofs.«01_k».proof.Proof.Gen.KernelIdeal.Value
public import Idealize.ShloMosaic.Lib.Pipeline.ValueKit

@[expose] public section

set_option maxRecDepth 16384

noncomputable section

namespace Cert.Proof.Array

open Idealize.ShloMosaic Idealize.ShloMosaic.TcCoe Cert.KernelIdeal Cert.KernelIdeal.Gen Scalar
open Idealize.ShloMosaic.Pipeline (Dat)

/-- The kernel's function of the whole argument. -/
def result (A : Vec Ideal S32768x2048 .f32) : Vec Ideal S32768x2048 .f32 := fun y => entry (A (ix2 (y 0) 0)) (A y)

/-- The two windows move together over the rows, -/
theorem same_rows : ∀ t : Fin cfg0.N, win0_0.index t 0 = win0_1.index t 0 :=
  (by decide +kernel : ∀ t : Fin grid0.N, _)

/-- and over the columns not at all. -/
theorem first_column : ∀ t : Fin cfg0.N, win0_0.index t 1 = 0 ∧ win0_1.index t 1 = 0 :=
  (by decide +kernel : ∀ t : Fin grid0.N, _)

/-- THE ARRAY after the run. -/
theorem array_eq (m : (ℓ : Loc nD τ sig) → Buf (Elt Ideal) ℓ) (c : Dev nD) :
    (dats m 0 c).arrAt 1 cfg0.N = result (m ((c : Thread nD τ).loc main_arg0)) := by
  refine (dats m 0 c).arrAt_eq_of_covers 1 _ (by decide +kernel) fun t hf y => ?_
  blk_simp
  rw [after0_1, Block.block_eq]
  idx_vars y
  blk_simp [iblk, Block.blockOf, result]
  refine congrArg₂ entry (congrArg (m ((c : Thread nD τ).loc main_arg0)) ?_) (congrArg (m ((c : Thread nD τ).loc main_arg0)) ?_)
  · blk_ext [same_rows t, first_column t]
  · blk_ext [same_rows t, first_column t]

end Cert.Proof.Array

end
-- ==== Proof.Ref.lean ====
/-
  The reference's result and the predicates of the claims, read at an entry.
-/
module

public import proofs.«01_k».proof.Proof.Scalar
public import proofs.«01_k».proof.Proof.Consts
public import proofs.«01_k».proof.Proof.Gen.ReferenceIdeal.Run
public import proofs.«01_k».proof.Defs
public import Idealize.ShloMosaic.Lib.Pointwise

@[expose] public section

set_option maxRecDepth 16384

noncomputable section

namespace Cert.Proof.Ref

open Idealize.ShloMosaic Idealize.ShloMosaic.TcCoe Scalar

/-! ## The shape facts the predicates state -/

/-- The shapes of `in_range` fit, -/
theorem facts_in_range : Cert.Pre_in_range.Facts := by
  constructor <;> decide

/-- so do those of `within`, -/
theorem facts_within : Cert.Pre_within.Facts := by
  constructor <;> decide

/-- and those of `near_cosine`. -/
theorem facts_near_cosine : Cert.Post_near_cosine.Facts := by
  constructor <;> decide

/-! ## The preconditions -/

/-- Where `in_range` holds, no entry is minus infinity and every row begins within the outer radius. -/
theorem in_range (h : Cert.Pre_in_range.Facts) (A : FVec Ideal Cert.Pre_in_range.S32768x2048 .f32) (r : Fin 32768)
    (l : Fin 2048) (e : Cert.Pre_in_range.fn A (ix2 r l) = 1#1) :
    A (ix2 r l) ≠ ⊥ ∧ A (ix2 r 0) ≤ ((6 : ℝ) : EReal) := by
  revert e
  pointwise [Cert.Pre_in_range.fn]
  rw [Consts.minus_inf, Consts.six]
  by_cases h1 : ⊥ < A (ix2 r l) <;> by_cases h2 : A (ix2 r 0) ≤ ((6 : ℝ) : EReal) <;>
    simp [h1, h2, IntOp.andi, bot_lt_iff_ne_bot.mp]

/-- Where `within` holds, every row begins within the outer radius. -/
theorem row_within (h : Cert.Pre_within.Facts) (A : FVec Ideal Cert.Pre_within.S32768x2048 .f32) (r : Fin 32768)
    (e : Cert.Pre_within.fn A (ix1 r) = 1#1) : A (ix2 r 0) ≤ ((6 : ℝ) : EReal) := by
  revert e
  pointwise [Cert.Pre_within.fn]
  rw [Consts.six]
  by_cases h2 : A (ix2 r 0) ≤ ((6 : ℝ) : EReal) <;> simp [h2]

/-! ## The reference and the postcondition -/

/-- In a row that begins within the outer radius, neither mask of the problem takes the window away. -/
theorem within (a x y : EReal) (b : Bool) (h : a ≤ ((6 : ℝ) : EReal)) :
    (if ((6 : ℝ) : EReal) < a then 0
      else Scalar.select (~~~IntOp.andi (BitVec.ofBool (decide (((6 : ℝ) : EReal) < a))) (BitVec.ofBool b)) x y) = x := by
  have h' : ¬ ((6 : ℝ) : EReal) < a := not_lt.mpr h
  cases b <;> simp [h', IntOp.andi, Scalar.select]

/-- The reference's result at an entry of such a row is what the problem states, with the polynomial. -/
theorem reference (m : (ℓ : Loc Cert.ReferenceIdeal.nD Cert.ReferenceIdeal.τ Cert.ReferenceIdeal.sig) → Buf (Elt Ideal) ℓ)
    (c : Dev Cert.ReferenceIdeal.nD) (A : FVec Ideal Cert.ReferenceIdeal.S32768x2048 .f32)
    (hA : m (c.tc.loc Cert.ReferenceIdeal.main_arg0) = A) (r : Fin 32768) (l : Fin 2048)
    (h : A (ix2 r 0) ≤ ((6 : ℝ) : EReal)) :
    Cert.ReferenceIdeal.Value.res_main_v41 m c (ix2 r l) = stated cutoff (A (ix2 r 0)) (A (ix2 r l)) := by
  unfold Cert.ReferenceIdeal.Value.res_main_v41
  pointwise
  rw [hA]
  simp only [Consts.six, Consts.three, Consts.ten, Consts.two, Consts.inner, Consts.c0, Consts.c1, Consts.c2]
  rw [within _ _ _ _ h]
  rfl

/-- The postcondition holds at an entry of such a row where the result is close to what the problem states, with the
    cosine. -/
theorem near_cosine (h : Cert.Post_near_cosine.Facts) (A o : FVec Ideal Cert.Post_near_cosine.S32768x2048 .f32)
    (r : Fin 32768) (l : Fin 2048) (h6 : A (ix2 r 0) ≤ ((6 : ℝ) : EReal))
    (hc : Close (o (ix2 r l)) (stated cosine (A (ix2 r 0)) (A (ix2 r l)))) :
    Cert.Post_near_cosine.fn A o (ix2 r l) = 1#1 := by
  pointwise [Cert.Post_near_cosine.fn, Cert.Post_near_cosine.fn_part1, Cert.Post_near_cosine.fn_part2,
    Cert.Post_near_cosine.fn_where, Cert.Post_near_cosine.fn_where_0]
  simp only [Consts.six, Consts.three, Consts.ten, Consts.half, Consts.inner, Consts.pi_word, Consts.abs_bound,
    Consts.rel_bound]
  rw [within _ _ _ _ h6, decide_eq_true]
  · rfl
  exact hc

end Cert.Proof.Ref

end
-- ==== Proof.lean ====
/-
  The claims about the radial cutoff kernel, assembled. The three programs run to their end, return every semaphore to
  zero and leave their argument unchanged. The kernel's result array (`Array.array_eq`) and the reference's
  (`Ref.reference`) are read entry by entry: under `in_range` they are equal (`Scalar.equation`), and under `within`
  the kernel's is near the problem's formula with the cosine itself (`Scalar.close`).
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Scalar
public import proofs.«01_k».proof.Proof.Array
public import proofs.«01_k».proof.Proof.Ref

@[expose] public section

noncomputable section

namespace Cert.Proof

open Idealize.ShloMosaic Idealize.ShloMosaic.TcCoe Idealize.SL.Sem

/-- The kernel runs to its end, its argument unchanged and every semaphore at zero. -/
theorem frame_kernel : Cert.quiescent_Kernel := fun m g _ => Cert.Kernel.Gen.frame m g

/-- So does the idealized kernel, from any memory. -/
theorem frame_kernelIdeal : Cert.quiescent_KernelIdeal := fun m g _ => Cert.KernelIdeal.Gen.frame m g

/-- So does the idealized reference. -/
theorem frame_reference : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- Each named constant rounds to the float it stands for. -/
theorem preserves : Cert.preserves_Kernel_KernelIdeal :=
  ⟨IdealRules.named_const.statement Cert.KernelIdeal.κ "r_cs" .f32 0x3E99999A#32 ((3 / 10 : ℝ) : EReal) rfl,
    IdealRules.named_const.statement Cert.KernelIdeal.κ "inv_period" .f32 0x3DB3A62D#32 ((5 / 57 : ℝ) : EReal) rfl,
    IdealRules.named_const.statement Cert.KernelIdeal.κ "cs_turns" .f32 0x3CD79436#32 ((1 / 38 : ℝ) : EReal) rfl⟩

/-- The idealized kernel's run: its result array is the kernel's function of its argument. -/
theorem run_kernel (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal)))
      ⟨m, fun _ => 0, g⟩ (fun r => ∀ c : Dev Cert.KernelIdeal.nD,
        r.2.mem ((c : Thread Cert.KernelIdeal.nD Cert.KernelIdeal.τ).loc Cert.KernelIdeal.main_v0)
            = Array.result (m ((c : Thread Cert.KernelIdeal.nD Cert.KernelIdeal.τ).loc Cert.KernelIdeal.main_arg0))
          ∧ r.2.mem ((c : Thread Cert.KernelIdeal.nD Cert.KernelIdeal.τ).loc Cert.KernelIdeal.main_arg0)
            = m ((c : Thread Cert.KernelIdeal.nD Cert.KernelIdeal.τ).loc Cert.KernelIdeal.main_arg0)) :=
  (θ_run Cert.KernelIdeal.defs _ _).mono (fun _ h c => ⟨(h c).1.trans (Array.array_eq m c), (h c).2⟩)
    (Cert.KernelIdeal.Value.run_blocks (F := Ideal) m g)

/-- EQUALITY: under `in_range` the kernel and the reference end with the same array. -/
theorem algebraic : Cert.algebraic_KernelIdeal_ReferenceIdeal_pre_in_range (hPre_in_range := Ref.facts_in_range) := by
  intro m g m' g' hpre harg
  refine ⟨_, run_kernel m g, (θ_run Cert.ReferenceIdeal.defs _ _).mono (fun r h c => ⟨(h c).1.trans ?_, (h c).2⟩)
    (Cert.ReferenceIdeal.Value.run (F := Ideal) m' g')⟩
  funext y
  idx_vars y
  obtain ⟨hv, h6⟩ := Ref.in_range Ref.facts_in_range _ y0 y1 (congrFun (hpre c) (ix2 y0 y1))
  exact (Ref.reference m' c _ (harg c) y0 y1 h6).trans (Scalar.equation _ _ hv).symm

/-- DISTANCE: under `within` the kernel's array is near the problem's formula with the cosine. -/
theorem holds : Cert.holds_KernelIdeal_near_cosine_pre_within (hPre_within := Ref.facts_within)
    (hPost_near_cosine := Ref.facts_near_cosine) := by
  intro m g hpre
  refine (θ_run Cert.KernelIdeal.defs _ _).mono (fun r h c => ⟨(h c).2, ?_⟩) (run_kernel m g)
  rw [(h c).1]
  funext y
  idx_vars y
  exact Ref.near_cosine Ref.facts_near_cosine _ _ y0 y1
    (Ref.row_within Ref.facts_within _ y0 (congrFun (hpre c) (ix1 y0))) (Scalar.close _ _)

/-- All the claims. -/
theorem claim : Cert.Claim :=
  ⟨Cert.Kernel.Gen.facts, Cert.KernelIdeal.Gen.facts, Cert.ReferenceIdeal.Gen.facts, Ref.facts_in_range,
    Ref.facts_within, Ref.facts_near_cosine, frame_kernel, frame_kernelIdeal,
    fun m g _ => frame_kernelIdeal m g trivial, fun m g _ => frame_kernelIdeal m g trivial, frame_reference,
    fun m g _ => frame_reference m g trivial, preserves, algebraic, holds⟩

end Cert.Proof

end
